-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_values) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S4x2048x2048 : Shape := ⟨3, ![4, 2048, 2048]⟩
abbrev S4x2048x1 : Shape := ⟨3, ![4, 2048, 1]⟩
abbrev S16x2048 : Shape := ⟨2, ![16, 2048]⟩
abbrev S16 : Shape := ⟨1, ![16]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S4x2048x1 : S_.BroadcastsInDim S4x2048x1 (![] : Fin 0 → Fin S4x2048x1.rank)
  reducesTo_S4x2048x1_S_d0_1_2 : S4x2048x1.ReducesTo [0, 1, 2] S_
  bcast_S_S16x2048 : S_.BroadcastsInDim S16x2048 (![] : Fin 0 → Fin S16x2048.rank)
  reducesTo_S16x2048_S_d0_1 : S16x2048.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S4x2048x2048 .f32) (main_arg1 : FVec F S4x2048x1 .f32) (main_arg2 : FVec F S16x2048 .f32) (main_arg3 : FVec F S16 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S4x2048x1 .f32 := Host.absf main_arg1
  let main_cst_0 : FVec F S_ .f32 := constant S_ .f32 0x7F800000#32
  let main_v5 : FVec F S4x2048x1 .f32 := broadcastInDim S4x2048x1 ![] bcast_S_S4x2048x1 main_cst_0
  let main_v6 : IVec S4x2048x1 1 := cmpf .olt main_v4 main_v5
  let main_c_1 : IVec S_ 1 := constantI S_ 1 1#1
  let main_v7 : IVec S_ 1 := (fun x v => Host.reduce IntOp.andi x v reducesTo_S4x2048x1_S_d0_1_2 h_S_) main_v6 main_c_1
  let main_v8 : IVec S_ 1 := andi main_v3 main_v7
  let main_v9 : FVec F S16x2048 .f32 := Host.absf main_arg2
  let main_cst_2 : FVec F S_ .f32 := constant S_ .f32 0x7F800000#32
  let main_v10 : FVec F S16x2048 .f32 := broadcastInDim S16x2048 ![] bcast_S_S16x2048 main_cst_2
  let main_v11 : IVec S16x2048 1 := cmpf .olt main_v9 main_v10
  let main_c_3 : IVec S_ 1 := constantI S_ 1 1#1
  let main_v12 : IVec S_ 1 := (fun x v => Host.reduce IntOp.andi x v reducesTo_S16x2048_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S4x2048x2048 : Shape := ⟨3, ![4, 2048, 2048]⟩
abbrev S4x2048x1 : Shape := ⟨3, ![4, 2048, 1]⟩
abbrev S16x2048 : Shape := ⟨2, ![16, 2048]⟩
abbrev S16 : Shape := ⟨1, ![16]⟩
abbrev S8192x2048 : Shape := ⟨2, ![8192, 2048]⟩
abbrev S1x8192 : Shape := ⟨2, ![1, 8192]⟩
abbrev S16x1 : Shape := ⟨2, ![16, 1]⟩
abbrev S16x8192 : Shape := ⟨2, ![16, 8192]⟩
abbrev S2x8192 : Shape := ⟨2, ![2, 8192]⟩
abbrev S1x1 : Shape := ⟨2, ![1, 1]⟩
abbrev S1024x2048 : Shape := ⟨2, ![1024, 2048]⟩
abbrev S1x1024 : Shape := ⟨2, ![1, 1024]⟩
abbrev S16x1024 : Shape := ⟨2, ![16, 1024]⟩
abbrev S2x1024 : Shape := ⟨2, ![2, 1024]⟩
abbrev S1024 : Shape := ⟨1, ![1024]⟩
abbrev S1x16x1 : Shape := ⟨3, ![1, 16, 1]⟩
abbrev S1 : Shape := ⟨1, ![1]⟩
abbrev S1x1x1 : Shape := ⟨3, ![1, 1, 1]⟩
abbrev S8192x16 : Shape := ⟨2, ![8192, 16]⟩
abbrev S8192x2 : Shape := ⟨2, ![8192, 2]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1, .f32⟩
  | .hbm, ⟨2, _⟩ => ⟨S16x2048, .f32⟩
  | .hbm, ⟨3, _⟩ => ⟨S16, .f32⟩
  | .hbm, ⟨4, _⟩ => ⟨S8192x2048, .f32⟩
  | .hbm, ⟨5, _⟩ => ⟨S1x8192, .f32⟩
  | .hbm, ⟨6, _⟩ => ⟨S16x1, .f32⟩
  | .hbm, ⟨7, _⟩ => ⟨S16x8192, .f32⟩
  | .hbm, ⟨8, _⟩ => ⟨S2x8192, .i32⟩
  | .hbm, ⟨9, _⟩ => ⟨S2x8192, .f32⟩
  | .hbm, ⟨10, _⟩ => ⟨S1x1, .f32⟩
  | .hbm, ⟨11, _⟩ => ⟨S8192x16, .f32⟩
  | .hbm, ⟨12, _⟩ => ⟨S8192x2, .i32⟩
  | .hbm, ⟨13, _⟩ => ⟨S_, .f32⟩
  | .hbm, ⟨14, _⟩ => ⟨S8192x2, .f32⟩
  | .local _ .vmem, ⟨0, _⟩ => ⟨S1024x2048, .f32⟩
  | .local _ .vmem, ⟨1, _⟩ => ⟨S1024x2048, .f32⟩
  | .local _ .vmem, ⟨2, _⟩ => ⟨S1x1024, .f32⟩
  | .local _ .vmem, ⟨3, _⟩ => ⟨S1x1024, .f32⟩
  | .local _ .vmem, ⟨4, _⟩ => ⟨S16x2048, .f32⟩
  | .local _ .vmem, ⟨5, _⟩ => ⟨S16x1, .f32⟩
  | .local _ .vmem, ⟨6, _⟩ => ⟨S16x1024, .f32⟩
  | .local _ .vmem, ⟨7, _⟩ => ⟨S16x1024, .f32⟩
  | .local _ .vmem, ⟨8, _⟩ => ⟨S2x1024, .i32⟩
  | .local _ .vmem, ⟨9, _⟩ => ⟨S2x1024, .i32⟩
  | .local _ .vmem, ⟨10, _⟩ => ⟨S2x1024, .f32⟩
  | .local _ .vmem, ⟨11, _⟩ => ⟨S2x1024, .f32⟩
  | .local _ .vmem, ⟨12, _⟩ => ⟨S1x1, .f32⟩
  | .local _ .vmem, ⟨13, _⟩ => ⟨S16x1, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v55 : BitVec 1 := Scalar.cmpi .eq arg0 c7_i32
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4x2048x2048 : Shape := ⟨3, ![4, 2048, 2048]⟩
abbrev S4x2048x1 : Shape := ⟨3, ![4, 2048, 1]⟩
abbrev S16x2048 : Shape := ⟨2, ![16, 2048]⟩
abbrev S16 : Shape := ⟨1, ![16]⟩
abbrev S8192x2048 : Shape := ⟨2, ![8192, 2048]⟩
abbrev S8192x1 : Shape := ⟨2, ![8192, 1]⟩
abbrev S2048x16 : Shape := ⟨2, ![2048, 16]⟩
abbrev S8192x16 : Shape := ⟨2, ![8192, 16]⟩
abbrev S1x16 : Shape := ⟨2, ![1, 16]⟩
abbrev S_ : Shape := ⟨0, ![]⟩
abbrev S8192 : Shape := ⟨1, ![8192]⟩
abbrev S8192x2 : Shape := ⟨2, ![8192, 2]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x1, .f32⟩
  | .hbm, ⟨2, _⟩ => ⟨S16x2048, .f32⟩
  | .hbm, ⟨3, _⟩ => ⟨S16, .f32⟩
  | .hbm, ⟨4, _⟩ => ⟨S8192x2048, .f32⟩
  | .hbm, ⟨5, _⟩ => ⟨S8192x1, .f32⟩
  | .hbm, ⟨6, _⟩ => ⟨S2048x16, .f32⟩
  | .hbm, ⟨7, _⟩ => ⟨S8192x16, .f32⟩
  | .hbm, ⟨8, _⟩ => ⟨S1x16, .f32⟩
  | .hbm, ⟨9, _⟩ => ⟨S8192x16, .f32⟩
  | .hbm, ⟨10, _⟩ => ⟨S8192x16, .f32⟩
  | .hbm, ⟨11, _⟩ => ⟨S8192x16, .f32⟩
  | .hbm, ⟨12, _⟩ => ⟨S8192x16, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x16, .f32⟩
  | .hbm, ⟨26, _⟩ => ⟨S8192x16, .f32⟩
  | .hbm, ⟨27, _⟩ => ⟨S8192x2, .f32⟩
  | .hbm, ⟨28, _⟩ => ⟨S8192x2, .i32⟩
  | .hbm, ⟨29, _⟩ => ⟨S_, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_values : Ref sig .tc := ⟨.hbm, 27, rfl⟩
abbrev main_indices : Ref sig .tc := ⟨.hbm, 28, rfl⟩
abbrev main_cst_2 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.RowTop.lean ====
/- The two greatest of a row of sixteen extended reals: what the greatest entry, its first position, and the same
   again with that position struck out have to do with the first two places of a stable descending sort. -/
module

public import Idealize.ShloMosaic.Lib.Pointwise
public import Idealize.ShloMosaic.Lib.SortPrefix

@[expose] public section

namespace Cert.Router

open Idealize.ShloMosaic

/-! ## A stable sort by a key -/

/-- Over an ascending list, a stable sort by a strict comparison and the sort by that comparison refined by "the
    earlier position first" are the same list. -/
theorem stableSort_refine {n : ℕ} (B C : Fin n → Fin n → Bool)
    (h : ∀ a b, a < b → B b a = C b a) (l : List (Fin n)) (hl : l.Pairwise (· < ·)) :
    stableSort B l = stableSort C l := by
  induction l with
  | nil => rfl
  | cons a l ih =>
    rw [List.pairwise_cons] at hl
    show insertBefore B a (stableSort B l) = insertBefore C a (stableSort C l)
    rw [ih hl.2]
    exact insertBefore_congr B C a _ fun b hb => h a b (hl.1 b ((perm_stableSort C l).mem_iff.mp hb))

/-- Sorting positions by descending key: ties may as well be broken by the position. -/
theorem sortedFrom_refine {n : ℕ} (f : Fin n → EReal) :
    sortedFrom (fun k k' => decide (f k' < f k))
      = sortedFrom fun k k' => decide (f k' < f k) || (decide (f k = f k') && decide (k < k')) := by
  have h : sortPositions n (fun k k' => decide (f k' < f k))
      = sortPositions n fun k k' => decide (f k' < f k) || (decide (f k = f k') && decide (k < k')) :=
    stableSort_refine _ _ (fun a b hab => by simp [not_lt.mpr hab.le]) _ (List.pairwise_lt_finRange n)
  funext k
  unfold sortedFrom
  simp only [List.get_eq_getElem, h]
  rfl

/-! ## The first greatest entry -/

/-- `i` is the first of the positions at which `f` is greatest. -/
structure IsFirstMax {n : ℕ} (f : Fin n → EReal) (i : Fin n) : Prop where
  le : ∀ e, f e ≤ f i
  first : ∀ e, f e = f i → i ≤ e

/-- A row that is not empty has a first greatest entry. -/
theorem exists_isFirstMax {n : ℕ} (f : Fin (n + 1) → EReal) : ∃ i, IsFirstMax f i := by
  obtain ⟨m, -, hm⟩ := Finset.exists_max_image Finset.univ f ⟨0, Finset.mem_univ _⟩
  have hne : (Finset.univ.filter fun e => f e = f m).Nonempty := ⟨m, by simp⟩
  obtain ⟨i, hi, hmin⟩ := Finset.exists_min_image _ (fun e => e) hne
  have hfi : f i = f m := (Finset.mem_filter.mp hi).2
  exact ⟨i, fun e => (hm e (Finset.mem_univ _)).trans hfi.ge,
    fun e he => hmin e (Finset.mem_filter.mpr ⟨Finset.mem_univ _, he.trans hfi⟩)⟩

/-- The running maximum from minus infinity is the first greatest entry. -/
theorem fold_max_eq {n : ℕ} {f : Fin n → EReal} {i : Fin n} (h : IsFirstMax f i) :
    (Finset.univ : Finset (Fin n)).fold max ⊥ f = f i :=
  le_antisymm ((Finset.fold_max_le (f i)).mpr ⟨bot_le, fun e _ => h.le e⟩)
    ((Finset.le_fold_max (f i)).mpr (Or.inr ⟨i, Finset.mem_univ _, le_rfl⟩))

/-- The signed minimum of two words, read as integers. -/
theorem toInt_minsi (a b : BitVec 32) : (IntOp.minsi a b).toInt = min a.toInt b.toInt := by
  unfold IntOp.minsi
  by_cases h : a.slt b = true
  · have h' := BitVec.slt_iff_toInt_lt.mp h
    simp only [h, if_true]; omega
  · have h' := mt BitVec.slt_iff_toInt_lt.mpr h
    simp only [h]; simp; omega

/-- A position below sixteen as a word, read back as an integer. -/
theorem toInt_ofNat_fin (e : Fin 16) : (BitVec.ofNat 32 e.val).toInt = (e.val : ℤ) := by
  revert e; decide

/-- Positions below sixteen are told apart by their words. -/
theorem ofNat_fin_inj (e e' : Fin 16) : BitVec.ofNat 32 e.val = BitVec.ofNat 32 e'.val ↔ e = e' := by
  revert e e'; decide

/-- The least, as signed words from the greatest word, of "the position where the entry is the row's greatest, sixteen
    elsewhere" is the first greatest entry's position. -/
theorem fold_minsi_eq {f : Fin 16 → EReal} {i : Fin 16} (h : IsFirstMax f i) (g : Fin 16 → BitVec 32)
    (hg : ∀ e, g e = if f e = f i then BitVec.ofNat 32 e.val else 16#32) [Std.Commutative (IntOp.minsi (w := 32))]
    [Std.Associative (IntOp.minsi (w := 32))] :
    (Finset.univ : Finset (Fin 16)).fold IntOp.minsi 2147483647#32 g = BitVec.ofNat 32 i.val := by
  apply BitVec.eq_of_toInt_eq
  rw [← Finset.fold_hom (op' := min) (m := BitVec.toInt) toInt_minsi, toInt_ofNat_fin]
  have hi : (g i).toInt = (i.val : ℤ) := by rw [hg, if_pos rfl, toInt_ofNat_fin]
  apply le_antisymm
  · exact (Finset.fold_min_le _).mpr (Or.inr ⟨i, Finset.mem_univ _, hi.le⟩)
  · refine (Finset.le_fold_min _).mpr ⟨?_, fun e _ => ?_⟩
    · have := i.isLt
      have h2 : (2147483647#32 : BitVec 32).toInt = 2147483647 := by decide
      omega
    · rw [hg]
      split
      · rename_i he
        rw [toInt_ofNat_fin]
        exact_mod_cast h.first e he
      · have := i.isLt
        have h2 : (16#32 : BitVec 32).toInt = 16 := by decide
        omega

/-! ## The second greatest entry -/

/-- The row with position `i` replaced by `c`. -/
def strike {n : ℕ} (f : Fin n → EReal) (i : Fin n) (c : EReal) (e : Fin n) : EReal := if e = i then c else f e

/-- With the first greatest entry replaced by something below every entry, the next first greatest entry is elsewhere. -/
theorem second_ne {f : Fin 16 → EReal} {i j : Fin 16} {c : EReal} (hc : ∀ e, c < f e) (hj : IsFirstMax (strike f i c) j) :
    j ≠ i := by
  rintro rfl
  obtain ⟨e, he⟩ : ∃ e : Fin 16, e ≠ j := exists_ne j
  have := hj.le e
  simp only [strike, if_neg he, if_true] at this
  exact absurd (hc e) (not_lt.mpr this)

/-- … and what it holds is the row's own entry. -/
theorem strike_second {f : Fin 16 → EReal} {i j : Fin 16} {c : EReal} (hc : ∀ e, c < f e) (hj : IsFirstMax (strike f i c) j) :
    strike f i c j = f j := if_neg (second_ne hc hj)

/-- THE FIRST TWO PLACES of the stable descending sort of a row: the first greatest entry, and the first greatest entry
    once that one is replaced by something below every entry. -/
theorem sortedFrom_two {f : Fin 16 → EReal} {i j : Fin 16} {c : EReal} (hc : ∀ e, c < f e) (hi : IsFirstMax f i)
    (hj : IsFirstMax (strike f i c) j) :
    sortedFrom (fun k k' : Fin 16 => decide (f k' < f k)) 0 = i
      ∧ sortedFrom (fun k k' : Fin 16 => decide (f k' < f k)) 1 = j := by
  have hne := second_ne hc hj
  have hjv := strike_second hc hj
  have hle : ∀ e, e ≠ i → f e ≤ f j := fun e he => by
    have := hj.le e
    rwa [hjv, strike, if_neg he] at this
  have hfirst : ∀ e, e ≠ i → f e = f j → j ≤ e := fun e he h => hj.first e (by rw [hjv, strike, if_neg he, h])
  rw [sortedFrom_refine]
  have hB := StrictTotalBefore.of_key_then_position (fun a b : EReal => decide (b < a)) f (by simp)
    (fun a b c' => by simp only [decide_eq_true_eq]; exact fun h h' => h'.trans h)
    (fun a b => by simp only [decide_eq_true_eq]; rcases lt_trichotomy a b with h | h | h <;> simp [h])
  have key := hB.sortedFrom_eq_of_prefix (k := 2) (by decide) ![i, j]
    (by
      intro a b hab
      fin_cases a <;> fin_cases b <;> simp_all)
    (by
      intro a b hab
      fin_cases a <;> fin_cases b <;> simp_all
      · exact ⟨hi.le j, fun h => hi.first j h⟩)
    (by
      intro a p hp
      have h0 : p ≠ i := fun h => hp 0 h.symm
      have h1 : p ≠ j := fun h => hp 1 h.symm
      fin_cases a
      · simp only [Bool.or_eq_false_iff, decide_eq_false_iff_not, not_lt, Bool.and_eq_false_iff]
        refine ⟨hi.le p, ?_⟩
        by_cases h : f p = f i
        · exact Or.inr (hi.first p h)
        · exact Or.inl h
      · simp only [Bool.or_eq_false_iff, decide_eq_false_iff_not, not_lt, Bool.and_eq_false_iff]
        refine ⟨hle p h0, ?_⟩
        by_cases h : f p = f j
        · exact Or.inr (hfirst p h0 h)
        · exact Or.inl h)
  exact ⟨key 0, key 1⟩

end Cert.Router

end
-- ==== Proof.Row.lean ====
/- The router's row mathematics over the extended reals: the probabilities of a row of sixteen logits, that they are
   never negative when the logits are real numbers, and the two positions that a row's probabilities select. -/
module

public import proofs.«01_k».proof.Proof.RowTop

@[expose] public section

noncomputable section

namespace Cert.Router

open Idealize.ShloMosaic

/-! ## Constants -/

/-- The pattern of minus infinity. -/
theorem ofBits_neg_inf : Ideal.ofBits .f32 0xFF800000#32 = ⊥ := by
  simp [Ideal.ofBits, Ideal.ieee]

/-- What the kernel writes over an expert already taken: minus one. -/
abbrev taken : EReal := Ideal.ofBits .f32 0xBF800000#32

/-- The pattern denotes minus one. -/
theorem taken_eq : taken = ((-1 : ℝ) : EReal) := by
  simp [taken, Ideal.ofBits, Ideal.ieee]
  rw [← EReal.coe_mul]
  norm_num

/-- It is below every probability. -/
theorem taken_neg : taken < 0 := by
  rw [taken_eq]
  exact_mod_cast (by norm_num : (-1 : ℝ) < 0)

/-! ## Probabilities -/

/-- The greatest logit of a row. -/
def rowMax (r : Fin 16 → EReal) : EReal := (Finset.univ : Finset (Fin 16)).fold max ⊥ r

/-- The row's exponentials, taken below its greatest logit. -/
def rowExp (r : Fin 16 → EReal) (e : Fin 16) : EReal := Ideal.exp (r e - rowMax r)

/-- The row's probabilities. -/
def prob (r : Fin 16 → EReal) (e : Fin 16) : EReal := Ideal.div (rowExp r e) (∑ x, rowExp r x)

/-- A sum of real numbers, taken over the extended reals, is their sum. -/
theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

/-- The probabilities of a row of real logits are not negative. -/
theorem prob_nonneg {r : Fin 16 → EReal} (hr : ∀ e, ∃ x : ℝ, r e = (x : EReal)) (e : Fin 16) : 0 ≤ prob r e := by
  choose s hs using hr
  obtain ⟨i, hi⟩ := exists_isFirstMax (n := 15) r
  have hm : rowMax r = (s i : EReal) := (fold_max_eq hi).trans (hs i)
  have hx : ∀ x, rowExp r x = ((Real.exp (s x - s i) : ℝ) : EReal) := fun x => by
    rw [rowExp, hm, hs x, ← EReal.coe_sub]; rfl
  have hsum : ∑ x, rowExp r x = ((∑ x, Real.exp (s x - s i) : ℝ) : EReal) := by
    simp only [hx]; exact sum_coe _ _
  have hpos : 0 < ∑ x : Fin 16, Real.exp (s x - s i) := Finset.sum_pos (fun x _ => Real.exp_pos _) ⟨0, Finset.mem_univ _⟩
  rw [prob, hsum, hx e, Ideal.div, if_neg (by exact_mod_cast hpos.ne'), ← EReal.coe_inv, ← EReal.coe_mul]
  exact_mod_cast mul_nonneg (Real.exp_pos _).le (inv_nonneg.mpr hpos.le)

/-! ## The two selected positions -/

/-- The first position of a row's greatest entry. -/
def top1 (f : Fin 16 → EReal) : Fin 16 := Classical.choose (exists_isFirstMax (n := 15) f)

/-- The first position of a row's greatest entry once `top1` is taken. -/
def top2 (f : Fin 16 → EReal) : Fin 16 := Classical.choose (exists_isFirstMax (n := 15) (strike f (top1 f) taken))

/-- `top1` is the first place of the greatest element. -/
theorem top1_spec (f : Fin 16 → EReal) : IsFirstMax f (top1 f) := Classical.choose_spec (exists_isFirstMax (n := 15) f)

/-- `top2` is the first place of the greatest element once `top1` is struck out. -/
theorem top2_spec (f : Fin 16 → EReal) : IsFirstMax (strike f (top1 f) taken) (top2 f) :=
  Classical.choose_spec (exists_isFirstMax (n := 15) (strike f (top1 f) taken))

/-- At `top2` the struck row holds the row's own entry, if the row has no negative entry. -/
theorem strike_top2 {f : Fin 16 → EReal} (hf : ∀ e, 0 ≤ f e) : strike f (top1 f) taken (top2 f) = f (top2 f) :=
  strike_second (fun e => taken_neg.trans_le (hf e)) (top2_spec f)

/-- The position selected in place `a` of two: `top1`, then `top2`. -/
def pick (f : Fin 16 → EReal) (a : Fin 2) : Fin 16 := if a = 0 then top1 f else top2 f

/-- The stable descending sort of a row with no negative entry begins with the two selected positions. -/
theorem sortedFrom_pick {f : Fin 16 → EReal} (hf : ∀ e, 0 ≤ f e) (a : Fin 2) (k : Fin 16) (hk : k.val = a.val) :
    sortedFrom (fun k k' : Fin 16 => decide (f k' < f k)) k = pick f a := by
  obtain ⟨h0, h1⟩ := sortedFrom_two (fun e => taken_neg.trans_le (hf e)) (top1_spec f) (top2_spec f)
  fin_cases a
  · obtain rfl : k = 0 := Fin.ext hk
    exact h0
  · obtain rfl : k = 1 := Fin.ext hk
    exact h1

end Cert.Router

end

end
-- ==== Proof.Spec.lean ====
/- What the router computes from its four arguments, as functions of an index: the one statement both programs are
   brought to. -/
module

public import proofs.«01_k».proof.Proof.Row
public import Idealize.ShloMosaic.Lib.Pointwise

@[expose] public section

noncomputable section

namespace Cert.Router

open Idealize.ShloMosaic

/-- The hidden states, the tokens' masses, the experts' weights and the experts' mass biases. -/
structure Args where
  hidden : FVec Ideal ⟨3, ![4, 2048, 2048]⟩ .f32
  mass : FVec Ideal ⟨3, ![4, 2048, 1]⟩ .f32
  weight : FVec Ideal ⟨2, ![16, 2048]⟩ .f32
  bias : FVec Ideal ⟨1, ![16]⟩ .f32

/-- Every element of every argument is a real number. -/
structure Args.Real (A : Args) : Prop where
  hidden : ∀ i, ∃ x : ℝ, A.hidden i = (x : EReal)
  mass : ∀ i, ∃ x : ℝ, A.mass i = (x : EReal)
  weight : ∀ i, ∃ x : ℝ, A.weight i = (x : EReal)
  bias : ∀ i, ∃ x : ℝ, A.bias i = (x : EReal)

variable (A : Args)

/-- Token `n`'s batch and its place in the batch. -/
def batch (n : Fin 8192) : Fin 4 := ⟨n.val / 2048, by omega⟩
def place (n : Fin 8192) : Fin 2048 := ⟨n.val % 2048, by omega⟩

/-- Token `n`'s logits, one for each expert. -/
def tokenRow (n : Fin 8192) (e : Fin 16) : EReal :=
  ∑ k, A.weight (ix2 e k) * A.hidden (ix3 (batch n) (place n) k) + A.bias (ix1 e) * A.mass (ix3 (batch n) (place n) 0)

/-- Token `n`'s probabilities. -/
def tokenProb (n : Fin 8192) : Fin 16 → EReal := prob (tokenRow A n)

/-- The logits. -/
def logitsOf : FVec Ideal ⟨2, ![8192, 16]⟩ .f32 := fun i => tokenRow A (i 0) (i 1)

/-- The two experts of each token. -/
def expertsOf : IVec ⟨2, ![8192, 2]⟩ 32 := fun i => BitVec.ofNat 32 (pick (tokenProb A (i 0)) (i 1)).val

/-- Their probabilities. -/
def weightsOf : FVec Ideal ⟨2, ![8192, 2]⟩ .f32 := fun i => tokenProb A (i 0) (pick (tokenProb A (i 0)) (i 1))

/-- Each expert's probabilities summed over the tokens, less the load it should have. -/
def excess (e : Fin 16) : EReal := ∑ n, tokenProb A n e - Ideal.ofBits .f32 0x44000000#32

/-- The loss: the mean of the squared excesses. -/
def lossOf : FVec Ideal ⟨0, ![]⟩ .f32 := fun _ => Ideal.div (∑ e, excess A e * excess A e) (Ideal.ofBits .f32 0x41800000#32)

variable {A}

/-- Real arguments have real logits. -/
theorem tokenRow_real (h : A.Real) (n : Fin 8192) (e : Fin 16) : ∃ x : ℝ, tokenRow A n e = (x : EReal) := by
  choose H hH using h.hidden
  choose M hM using h.mass
  choose W hW using h.weight
  choose B hB using h.bias
  refine ⟨∑ k, W (ix2 e k) * H (ix3 (batch n) (place n) k) + B (ix1 e) * M (ix3 (batch n) (place n) 0), ?_⟩
  rw [tokenRow, EReal.coe_add, ← sum_coe, EReal.coe_mul]
  simp only [hH, hM, hW, hB, EReal.coe_mul]

/-- Real arguments have no negative probability. -/
theorem tokenProb_nonneg (h : A.Real) (n : Fin 8192) (e : Fin 16) : 0 ≤ tokenProb A n e :=
  prob_nonneg (tokenRow_real h n) e

end Cert.Router

end

end
-- ==== Proof.Ref.lean ====
/- The reference's results are the router's: its logits, its two greatest probabilities of each token with their experts,
   and its loss, each read at an index. -/
module

public import proofs.«01_k».proof.Proof.Spec
public import proofs.«01_k».proof.Proof.Gen.ReferenceIdeal.Run

@[expose] public section

set_option maxRecDepth 16384

noncomputable section

namespace Cert.Router

open Idealize.ShloMosaic Idealize.ShloMosaic.TcCoe Idealize.SL.Sem Cert.ReferenceIdeal Cert.ReferenceIdeal.Gen

/-- The reference's logits. -/
def refLogits (A : Args) : FVec Ideal S8192x16 .f32 :=
  addf (Host.dotGeneral dot_S8192x2048_S2048x16_S8192x16_1_0_0_1_n_n none (shapeCast _ A.hidden shapeCasts_S4x2048x2048_S8192x2048)
      (transpose S2048x16 [1, 0] A.weight transposes_S16x2048_S2048x16_1_0))
    (mulf (broadcastInDim S8192x16 ![0, 1] bcast_S8192x1_S8192x16_0_1 (shapeCast _ A.mass shapeCasts_S4x2048x1_S8192x1))
      (broadcastInDim S8192x16 ![0, 1] bcast_S1x16_S8192x16_0_1 (broadcastInDim S1x16 ![1] bcast_S16_S1x16_1 A.bias)))

/-- The reference's exponentials of a table of logits. -/
def refExp (L : FVec Ideal S8192x16 .f32) : FVec Ideal S8192x16 .f32 :=
  Host.exp (subf L (broadcastInDim S8192x16 ![0, 1] bcast_S8192x1_S8192x16_0_1 (broadcastInDim S8192x1 ![0] bcast_S8192_S8192x1_0
    (maximumf (broadcastInDim S8192 ![] bcast_S_S8192 (constant S_ .f32 0xFF800000#32))
      (Host.reduce FloatOps.maximumf L (constant S_ .f32 0xFF800000#32) reducesTo_S8192x16_S8192_d1 h_S_)))))

/-- The reference's probabilities of a table of logits. -/
def refProb (L : FVec Ideal S8192x16 .f32) : FVec Ideal S8192x16 .f32 :=
  Host.divf (refExp L) (broadcastInDim S8192x16 ![0, 1] bcast_S8192x1_S8192x16_0_1 (broadcastInDim S8192x1 ![0] bcast_S8192_S8192x1_0
    (Host.reduceAdd (refExp L) (constant S_ .f32 0x00000000#32) reducesTo_S8192x16_S8192_d1 h_S_)))

/-- The reference's loss of a table of probabilities. -/
def refLoss (p : FVec Ideal S8192x16 .f32) : FVec Ideal S_ .f32 :=
  Host.divf (Host.reduceAdd (mulf
      (subf (Host.reduceAdd p (constant S_ .f32 0x00000000#32) reducesTo_S8192x16_S16_d0 h_S_) (broadcastInDim S16 ![] bcast_S_S16 (constant S_ .f32 0x44000000#32)))
      (subf (Host.reduceAdd p (constant S_ .f32 0x00000000#32) reducesTo_S8192x16_S16_d0 h_S_) (broadcastInDim S16 ![] bcast_S_S16 (constant S_ .f32 0x44000000#32))))
    (constant S_ .f32 0x00000000#32) reducesTo_S16_S_d0 h_S_) (constant S_ .f32 0x41800000#32)

/-- The reference's logits are the router's. -/
theorem refLogits_apply (A : Args) (n : Fin 8192) (e : Fin 16) : refLogits A (ix2 n e) = tokenRow A n e := by
  pointwise [refLogits]
  rw [tokenRow]
  simp only [mul_comm (A.weight _), mul_comm (A.bias _)]
  rfl

/-- The reference's exponentials. -/
theorem refExp_apply (L : FVec Ideal S8192x16 .f32) (n : Fin 8192) (e : Fin 16) :
    refExp L (ix2 n e) = rowExp (fun x => L (ix2 n x)) e := by
  pointwise [refExp]
  rw [ofBits_neg_inf, bot_sup_eq]
  rfl

/-- The reference's probabilities. -/
theorem refProb_apply (L : FVec Ideal S8192x16 .f32) (n : Fin 8192) (e : Fin 16) :
    refProb L (ix2 n e) = prob (fun x => L (ix2 n x)) e := by
  pointwise [refProb]
  simp only [refExp_apply]
  rfl

/-- The reference's loss. -/
theorem refLoss_apply (p : FVec Ideal S8192x16 .f32) (i : S_.Idx) :
    refLoss p i = Ideal.div (∑ e, (∑ n, p (ix2 n e) - Ideal.ofBits .f32 0x44000000#32) * (∑ n, p (ix2 n e) - Ideal.ofBits .f32 0x44000000#32))
      (Ideal.ofBits .f32 0x41800000#32) := by
  pointwise [refLoss]

/-! ## The two greatest -/

/-- The comparison the sort is made by. -/
theorem cmpfTotal_gt_eq (x y : Ideal .f32) : (FloatOps.cmpfTotal (F := Ideal) .gt x y == 1#1) = decide (y < x) := by
  by_cases h : y < x <;> simp [Ideal.cmpfTotal_def, Ideal.cmp, CmpDirection.ordered, h]

/-- Moving an index of the table along its second axis. -/
theorem along_ix2 (n : Fin 8192) (e : Fin 16) (h : 1 < S8192x16.rank) (k : Fin (S8192x16.size ⟨1, h⟩)) :
    Shape.Idx.along (s := S8192x16) (ix2 n e) ⟨1, h⟩ k = ix2 (n1 := 16) n k := by
  funext b
  match b with
  | ⟨0, _⟩ => rfl
  | ⟨1, _⟩ => rfl

/-- The position that the sort of row `n` puts at place `a`. -/
theorem sorted_pick (p : FVec Ideal S8192x16 .f32) (hp : ∀ n e, 0 ≤ p (ix2 n e)) (n : Fin 8192) (a : Fin 2) (k : Fin 16)
    (hk : k.val = a.val) :
    sortedFrom (fun u v : Fin 16 => FloatOps.cmpfTotal (F := Ideal) .gt (p (ix2 n u)) (p (ix2 n v)) == 1#1) k
      = pick (fun e => p (ix2 n e)) a := by
  simp only [cmpfTotal_gt_eq]
  exact sortedFrom_pick (hp n) a k hk

/-- The slice's index of the table. -/
theorem slice_ix2 (n : Fin 8192) (a : Fin 2) (h : S8192x16.Slices (fun _ => 0) S8192x2) :
    (fun b => ⟨0 + ((ix2 n a : S8192x2.Idx) (b.cast h.1.symm)).val, Nat.lt_of_lt_of_le (Nat.add_lt_add_left ((ix2 n a : S8192x2.Idx) _).isLt _) (h.2 b)⟩ : S8192x16.Idx)
      = ix2 n ⟨a.val, by omega⟩ := by
  funext b
  apply Fin.ext
  match b with
  | ⟨0, _⟩ => exact Nat.zero_add _
  | ⟨1, _⟩ => exact Nat.zero_add _

/-- The values of the top two of each row. -/
theorem topK_values (p : FVec Ideal S8192x16 .f32) (hp : ∀ n e, 0 ≤ p (ix2 n e)) (n : Fin 8192) (a : Fin 2) :
    (Host.topK S8192x2 1 (FloatOps.cmpfTotal .gt) p sliceFits_S8192x16_S8192x2).1 (ix2 n a)
      = p (ix2 n (pick (fun e => p (ix2 n e)) a)) := by
  unfold Host.topK Host.sort2
  dsimp only
  rw [dif_pos (by decide : 1 < S8192x16.rank)]
  unfold extractStridedSlice
  dsimp only
  rw [slice_ix2 n a sliceFits_S8192x16_S8192x2]
  simp only [along_ix2]
  exact congrArg (fun k => p (ix2 n k)) (sorted_pick p hp n a _ (Nat.zero_add _))

/-- The positions of the top two of each row. -/
theorem topK_indices (p : FVec Ideal S8192x16 .f32) (hp : ∀ n e, 0 ≤ p (ix2 n e)) (n : Fin 8192) (a : Fin 2) :
    (Host.topK S8192x2 1 (FloatOps.cmpfTotal .gt) p sliceFits_S8192x16_S8192x2).2 (ix2 n a)
      = BitVec.ofNat 32 (pick (fun e => p (ix2 n e)) a).val := by
  unfold Host.topK Host.sort2
  dsimp only
  rw [dif_pos (by decide : 1 < S8192x16.rank)]
  unfold extractStridedSlice
  dsimp only
  rw [slice_ix2 n a sliceFits_S8192x16_S8192x2]
  simp only [along_ix2]
  exact congrArg (fun k : Fin 16 => BitVec.ofNat 32 k.val) (sorted_pick p hp n a _ (Nat.zero_add _))

/-! ## The run -/

/-- The arguments a memory of the reference holds. -/
def refArgs (m : (ℓ : Loc nD τ sig) → Buf (Elt Ideal) ℓ) (c : Dev nD) : Args where
  hidden := m ((c.tc : Thread nD τ).loc main_arg0)
  mass := m ((c.tc : Thread nD τ).loc main_arg1)
  weight := m ((c.tc : Thread nD τ).loc main_arg2)
  bias := m ((c.tc : Thread nD τ).loc main_arg3)

/-- The reference's probabilities are the tokens' probabilities. -/
theorem refProb_logits (A : Args) (n : Fin 8192) (e : Fin 16) : refProb (refLogits A) (ix2 n e) = tokenProb A n e := by
  rw [refProb_apply]
  simp only [refLogits_apply]
  rfl

/-- The reference's logits are the router's. -/
theorem refLogits_eq (A : Args) : refLogits A = logitsOf A := by
  funext j
  idx_vars j
  exact refLogits_apply A _ _

/-- The reference's loss is the router's. -/
theorem refLoss_eq (A : Args) : refLoss (refProb (refLogits A)) = lossOf A := by
  funext j
  rw [refLoss_apply]
  simp only [refProb_logits]
  rfl

variable {A : Args} (hA : A.Real)

include hA in
/-- From real arguments no probability of the reference is negative. -/
theorem refProb_nonneg (n : Fin 8192) (e : Fin 16) : 0 ≤ refProb (refLogits A) (ix2 n e) := by
  rw [refProb_logits]
  exact tokenProb_nonneg hA n e

include hA in
/-- From real arguments the reference selects the router's experts. -/
theorem refExperts_eq :
    (Host.topK S8192x2 1 (FloatOps.cmpfTotal .gt) (refProb (refLogits A)) sliceFits_S8192x16_S8192x2).2 = expertsOf A := by
  funext j
  idx_vars j
  rw [topK_indices _ (refProb_nonneg hA)]
  simp only [refProb_logits]
  rfl

include hA in
/-- From real arguments it selects their probabilities. -/
theorem refWeights_eq :
    (Host.topK S8192x2 1 (FloatOps.cmpfTotal .gt) (refProb (refLogits A)) sliceFits_S8192x16_S8192x2).1 = weightsOf A := by
  funext j
  idx_vars j
  rw [topK_values _ (refProb_nonneg hA)]
  simp only [refProb_logits]
  rfl

/-- From real arguments the reference ends with its four results at the router's and its arguments unchanged. -/
theorem ref_run (m : (ℓ : Loc nD τ sig) → Buf (Elt Ideal) ℓ) (ρ : Dev nD → PrngReg) (h : ∀ c, (refArgs m c).Real) :
    θ_run defs (onTc (τ := τ) (main (F := Ideal))) ⟨m, fun _ => 0, ρ⟩ fun r => ∀ c : Dev nD,
      r.2.mem ((c.tc : Thread nD τ).loc main_v8) = logitsOf (refArgs m c)
      ∧ r.2.mem ((c.tc : Thread nD τ).loc main_indices) = expertsOf (refArgs m c)
      ∧ r.2.mem ((c.tc : Thread nD τ).loc main_v25) = lossOf (refArgs m c)
      ∧ r.2.mem ((c.tc : Thread nD τ).loc main_values) = weightsOf (refArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ hr c => by
    obtain ⟨h0, h1, h2, h3, h4⟩ := hr c
    have e0 := refLogits_eq (refArgs m c)
    have e1 := refExperts_eq (h c)
    have e2 := refLoss_eq (refArgs m c)
    have e3 := refWeights_eq (h c)
    unfold refLogits at e0
    unfold refProb refExp refLogits at e1 e3
    unfold refLoss refProb refExp refLogits at e2
    unfold Cert.ReferenceIdeal.Value.res_main_v25 at h2
    exact ⟨h0.trans e0, h1.trans e1, h2.trans e2, h3.trans e3, h4⟩)
    (Cert.ReferenceIdeal.Value.run (F := Ideal) m ρ)

end Cert.Router

end

end
-- ==== Proof.BlockRows.lean ====
/- What the kernel's body computes from one block of 1024 tokens, read at an index: the logits, the two greatest
   probabilities of each token and their experts, and each expert's probabilities summed over the block. -/
module

public import proofs.«01_k».proof.Proof.Row
public import proofs.«01_k».proof.Proof.Gen.KernelIdeal.Skeleton

@[expose] public section

set_option maxRecDepth 16384

noncomputable section

namespace Cert.Router

open Idealize.ShloMosaic Cert.KernelIdeal Cert.KernelIdeal.Gen

variable (W : Vec Ideal S16x2048 .f32) (H : Vec Ideal S1024x2048 .f32) (b : Vec Ideal S16x1 .f32) (m : Vec Ideal S1x1024 .f32)

/-- The logits of the block's token `j`. -/
def blockRow (j : Fin 1024) (e : Fin 16) : EReal := ∑ k, W (ix2 e k) * H (ix2 j k) + b (ix2 e 0) * m (ix2 0 j)

/-- The kernel's logits. -/
theorem logits_apply (e : Fin 16) (j : Fin 1024) : k0_pay7 W H b m (ix2 e j) = blockRow W H b m j e := by
  pointwise [k0_pay7]
  rfl

/-- The kernel's probabilities. -/
theorem probs_apply (e : Fin 16) (j : Fin 1024) : k0_pay8 W H b m (ix2 e j) = prob (blockRow W H b m j) e := by
  pointwise [k0_pay8]
  simp only [logits_apply, ofBits_neg_inf]
  rfl

/-- The kernel's greatest probability of each token. -/
theorem best_apply (a : Fin 1) (j : Fin 1024) :
    k0_pay9 W H b m (ix2 a j) = prob (blockRow W H b m j) (top1 (prob (blockRow W H b m j))) := by
  pointwise [k0_pay9]
  simp only [probs_apply, ofBits_neg_inf]
  exact fold_max_eq (top1_spec _)

/-- The expert that has it. -/
theorem bestAt_apply (a : Fin 1) (j : Fin 1024) :
    k0_pay10 W H b m (ix2 a j) = BitVec.ofNat 32 (top1 (prob (blockRow W H b m j))).val := by
  pointwise [k0_pay10]
  exact fold_minsi_eq (top1_spec _) _ fun e => by simp only [probs_apply, best_apply]

/-- Choosing by the equality of two words. -/
theorem select_cmpi_eq {α : Type} (x y : BitVec 32) (u v : α) :
    Scalar.select (IntOp.cmpi .eq x y) u v = if x = y then u else v := by
  by_cases h : x = y
  · subst h; simp [Scalar.select, IntOp.cmpi]
  · have : (x == y) = false := by simpa using h
    simp [Scalar.select, IntOp.cmpi, h, this]

/-- The kernel's probabilities with the first expert taken. -/
theorem struck_apply (e : Fin 16) (j : Fin 1024) :
    k0_pay11 W H b m (ix2 e j)
      = strike (prob (blockRow W H b m j)) (top1 (prob (blockRow W H b m j))) taken e := by
  pointwise [k0_pay11]
  rw [select_cmpi_eq, bestAt_apply, probs_apply]
  simp only [ofNat_fin_inj]
  rfl

/-- The kernel's greatest probability among the other experts. -/
theorem next_apply (a : Fin 1) (j : Fin 1024) :
    k0_pay12 W H b m (ix2 a j)
      = strike (prob (blockRow W H b m j)) (top1 (prob (blockRow W H b m j))) taken (top2 (prob (blockRow W H b m j))) := by
  pointwise [k0_pay12]
  simp only [struck_apply, ofBits_neg_inf]
  exact fold_max_eq (top2_spec _)

/-- The two experts of each token, as the kernel stores them. -/
theorem experts_apply (a : Fin 2) (j : Fin 1024) :
    k0_pay2 (iota .tc S16x1024 32 [0] iota_S16x1024_d0_w32) (k0_pay10 W H b m) (k0_pay13 W H b m) 16#32 (ix2 a j)
      = BitVec.ofNat 32 (pick (prob (blockRow W H b m j)) a).val := by
  pointwise [k0_pay2, k0_pay13]
  fin_cases a
  · exact bestAt_apply W H b m 0 j
  · exact fold_minsi_eq (top2_spec _) _ fun e => by simp only [struck_apply, next_apply]

/-- The two probabilities of each token, as the kernel stores them. -/
theorem weights_apply (hp : ∀ j e, 0 ≤ prob (blockRow W H b m j) e) (a : Fin 2) (j : Fin 1024) :
    k0_pay1 (k0_pay9 W H b m) (k0_pay12 W H b m) (ix2 a j) = prob (blockRow W H b m j) (pick (prob (blockRow W H b m j)) a) := by
  pointwise [k0_pay1]
  fin_cases a
  · simp only [best_apply]; rfl
  · simp only [next_apply, strike_top2 (hp j)]; rfl

/-- The first block's sum of each expert's probabilities. -/
theorem first_apply (e : Fin 16) (z : Fin 1) :
    k0_pay4 (k0_pay8 W H b m) (ix2 e z) = ∑ j, prob (blockRow W H b m j) e := by
  pointwise [k0_pay4, k0_pay3]
  simp only [probs_apply]

/-- A later block's sum of each expert's probabilities, added to the sum so far. -/
theorem next_sum_apply (s : Vec Ideal S16x1 .f32) (e : Fin 16) (z : Fin 1) :
    k0_pay5 (k0_pay8 W H b m) s (ix2 e z) = s (ix2 e z) + ∑ j, prob (blockRow W H b m j) e := by
  pointwise [k0_pay5, k0_pay3]
  simp only [probs_apply]

/-- The loss the last block stores, of the summed probabilities. -/
theorem loss_apply (s : Vec Ideal S16x1 .f32) (y z : Fin 1) :
    k0_pay6 s (ix2 y z) = Ideal.div (∑ e, (s (ix2 e 0) - Ideal.ofBits .f32 0x44000000#32) * (s (ix2 e 0) - Ideal.ofBits .f32 0x44000000#32))
      (Ideal.ofBits .f32 0x41800000#32) := by
  pointwise [k0_pay6]
  simp

end Cert.Router

end

end
-- ==== Proof.Blocks.lean ====
/- What each grid point leaves in the kernel's output buffers and in its scratch, in terms of the point's input blocks:
   the payloads of the body's stores, whatever the point, and the running sum of the probabilities point by point. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.Router

open Idealize.ShloMosaic Idealize.ShloMosaic.TcCoe Cert.KernelIdeal Cert.KernelIdeal.Gen

variable {F : FTy → Type} [FloatOps F]
variable (m : (ℓ : Loc nD τ sig) → Buf (Elt F) ℓ) (c : Dev nD) (t : Fin cfg0.N)

/-- The origin of a two-axis array, written as a constant function. -/
theorem hz : (![0, 0] : Fin 2 → Nat) = fun _ => 0 := funext fun a => by fin_cases a <;> rfl

/-- The block of selected experts the body stores. -/
abbrev experts (W : Vec F S16x2048 .f32) (H : Vec F S1024x2048 .f32) (b : Vec F S16x1 .f32) (v : Vec F S1x1024 .f32) : IVec S2x1024 32 :=
  k0_pay2 (iota .tc S16x1024 32 [0] iota_S16x1024_d0_w32) (k0_pay10 W H b v) (k0_pay13 W H b v) 16#32

/-- The first point leaves the logits of its block. -/
theorem logits_A (h0 : t.val % 8 = 0) (h1 : ¬1 ≤ t.val) (h2 : ¬t.val % 8 = 7) :
    (outsAt0 m c t.val t.isLt).1 = k0_pay7 (iblk m c 2 t) (iblk m c 0 t) (iblk m c 3 t) (iblk m c 1 t) := by
  rw [outsAt0_A m c t h0 h1 h2]
  dsimp only
  unfold out0_A_4
  rw [View.read_writes_junk_eq_canon]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- The first point leaves the selected experts of its block. -/
theorem experts_A (h0 : t.val % 8 = 0) (h1 : ¬1 ≤ t.val) (h2 : ¬t.val % 8 = 7) :
    (outsAt0 m c t.val t.isLt).2.1 = experts (iblk m c 2 t) (iblk m c 0 t) (iblk m c 3 t) (iblk m c 1 t) := by
  rw [outsAt0_A m c t h0 h1 h2]
  dsimp only
  unfold out0_A_5
  rw [View.read_writes_junk_eq_canon]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- The first point leaves the selected probabilities of its block. -/
theorem weights_A (h0 : t.val % 8 = 0) (h1 : ¬1 ≤ t.val) (h2 : ¬t.val % 8 = 7) :
    (outsAt0 m c t.val t.isLt).2.2.1 = k0_pay1 (k0_pay9 (iblk m c 2 t) (iblk m c 0 t) (iblk m c 3 t) (iblk m c 1 t)) (k0_pay12 (iblk m c 2 t) (iblk m c 0 t) (iblk m c 3 t) (iblk m c 1 t)) := by
  rw [outsAt0_A m c t h0 h1 h2]
  dsimp only
  unfold out0_A_6
  rw [View.read_writes_junk_eq_canon]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- The first point leaves the sum so far. -/
theorem sum_A (h0 : t.val % 8 = 0) (h1 : ¬1 ≤ t.val) (h2 : ¬t.val % 8 = 7) :
    (outsAt0 m c t.val t.isLt).2.2.2.2 = k0_pay4 (k0_pay8 (iblk m c 2 t) (iblk m c 0 t) (iblk m c 3 t) (iblk m c 1 t)) := by
  rw [outsAt0_A m c t h0 h1 h2]
  dsimp only
  unfold sout0_A_0
  rw [View.read_writes_junk_eq_canon]
  unfold kernelRun0_A
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- A middle point leaves the logits of its block. -/
theorem logits_B (h0 : ¬t.val % 8 = 0) (h1 : 1 ≤ t.val) (h2 : ¬t.val % 8 = 7) :
    (outsAt0 m c t.val t.isLt).1 = k0_pay7 (iblk m c 2 t) (iblk m c 0 t) (iblk m c 3 t) (iblk m c 1 t) := by
  rw [outsAt0_B m c t h0 h1 h2]
  dsimp only
  unfold out0_B_4
  rw [View.read_writes_junk_eq_canon]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- A middle point leaves the selected experts of its block. -/
theorem experts_B (h0 : ¬t.val % 8 = 0) (h1 : 1 ≤ t.val) (h2 : ¬t.val % 8 = 7) :
    (outsAt0 m c t.val t.isLt).2.1 = experts (iblk m c 2 t) (iblk m c 0 t) (iblk m c 3 t) (iblk m c 1 t) := by
  rw [outsAt0_B m c t h0 h1 h2]
  dsimp only
  unfold out0_B_5
  rw [View.read_writes_junk_eq_canon]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- A middle point leaves the selected probabilities of its block. -/
theorem weights_B (h0 : ¬t.val % 8 = 0) (h1 : 1 ≤ t.val) (h2 : ¬t.val % 8 = 7) :
    (outsAt0 m c t.val t.isLt).2.2.1 = k0_pay1 (k0_pay9 (iblk m c 2 t) (iblk m c 0 t) (iblk m c 3 t) (iblk m c 1 t)) (k0_pay12 (iblk m c 2 t) (iblk m c 0 t) (iblk m c 3 t) (iblk m c 1 t)) := by
  rw [outsAt0_B m c t h0 h1 h2]
  dsimp only
  unfold out0_B_6
  rw [View.read_writes_junk_eq_canon]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- A middle point leaves the sum so far. -/
theorem sum_B (h0 : ¬t.val % 8 = 0) (h1 : 1 ≤ t.val) (h2 : ¬t.val % 8 = 7) :
    (outsAt0 m c t.val t.isLt).2.2.2.2 = k0_pay5 (k0_pay8 (iblk m c 2 t) (iblk m c 0 t) (iblk m c 3 t) (iblk m c 1 t)) (outsAt0 m c (t.val - 1) (Nat.lt_of_le_of_lt (Nat.sub_le _ _) t.isLt)).2.2.2.2 := by
  rw [outsAt0_B m c t h0 h1 h2]
  dsimp only
  unfold sout0_B_0
  rw [View.read_writes_junk_eq_canon]
  unfold kernelRun0_B
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz, (Memref.isWhole_whole _).read_unread]

/-- The last point leaves the logits of its block. -/
theorem logits_C (h0 : ¬t.val % 8 = 0) (h1 : 1 ≤ t.val) (h2 : t.val % 8 = 7) :
    (outsAt0 m c t.val t.isLt).1 = k0_pay7 (iblk m c 2 t) (iblk m c 0 t) (iblk m c 3 t) (iblk m c 1 t) := by
  rw [outsAt0_C m c t h0 h1 h2]
  dsimp only
  unfold out0_C_4
  rw [View.read_writes_junk_eq_canon]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- The last point leaves the selected experts of its block. -/
theorem experts_C (h0 : ¬t.val % 8 = 0) (h1 : 1 ≤ t.val) (h2 : t.val % 8 = 7) :
    (outsAt0 m c t.val t.isLt).2.1 = experts (iblk m c 2 t) (iblk m c 0 t) (iblk m c 3 t) (iblk m c 1 t) := by
  rw [outsAt0_C m c t h0 h1 h2]
  dsimp only
  unfold out0_C_5
  rw [View.read_writes_junk_eq_canon]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- The last point leaves the selected probabilities of its block. -/
theorem weights_C (h0 : ¬t.val % 8 = 0) (h1 : 1 ≤ t.val) (h2 : t.val % 8 = 7) :
    (outsAt0 m c t.val t.isLt).2.2.1 = k0_pay1 (k0_pay9 (iblk m c 2 t) (iblk m c 0 t) (iblk m c 3 t) (iblk m c 1 t)) (k0_pay12 (iblk m c 2 t) (iblk m c 0 t) (iblk m c 3 t) (iblk m c 1 t)) := by
  rw [outsAt0_C m c t h0 h1 h2]
  dsimp only
  unfold out0_C_6
  rw [View.read_writes_junk_eq_canon]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz]

/-- The last point leaves the sum so far. -/
theorem sum_C (h0 : ¬t.val % 8 = 0) (h1 : 1 ≤ t.val) (h2 : t.val % 8 = 7) :
    (outsAt0 m c t.val t.isLt).2.2.2.2 = k0_pay5 (k0_pay8 (iblk m c 2 t) (iblk m c 0 t) (iblk m c 3 t) (iblk m c 1 t)) (outsAt0 m c (t.val - 1) (Nat.lt_of_le_of_lt (Nat.sub_le _ _) t.isLt)).2.2.2.2 := by
  rw [outsAt0_C m c t h0 h1 h2]
  dsimp only
  unfold sout0_C_0
  rw [View.read_writes_junk_eq_canon]
  unfold kernelRun0_C
  dsimp only
  sl_unfold_words
  rw [View.canon_unit_zero hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz, (Memref.isWhole_whole _).read_unread]

/-- The last point leaves the loss of the whole sum. -/
theorem loss_C (h0 : ¬t.val % 8 = 0) (h1 : 1 ≤ t.val) (h2 : t.val % 8 = 7) :
    (outsAt0 m c t.val t.isLt).2.2.2.1 = k0_pay6 (k0_pay5 (k0_pay8 (iblk m c 2 t) (iblk m c 0 t) (iblk m c 3 t) (iblk m c 1 t)) (outsAt0 m c (t.val - 1) (Nat.lt_of_le_of_lt (Nat.sub_le _ _) t.isLt)).2.2.2.2) := by
  rw [outsAt0_C m c t h0 h1 h2]
  dsimp only
  unfold out0_C_7
  rw [View.read_writes_junk_eq_canon]
  unfold kernelRun0_C
  dsimp only
  sl_unfold_words
  rw [View.canon_unit_zero hz, View.readCov_unit_zero (S := S16x1) _ hz]
  simp only [View.readAt_eq_ld, (hs0_0 t).read_unread, (hs0_1 t).read_unread, (hs0_2 t).read_unread, (hs0_3 t).read_unread,
    View.ld_unit_zero (S := S16x2048) hz, View.ld_unit_zero (S := S1024x2048) hz, View.ld_unit_zero (S := S16x1) hz,
    View.ld_unit_zero (S := S1x1024) hz, (Memref.isWhole_whole _).read_unread]

end Cert.Router

end

end
-- ==== Proof.Inputs.lean ====
/- The blocks the kernel's grid points read, in terms of the program's arguments: point `t` sees tokens `1024 t` to
   `1024 t + 1023`, and its rows of logits are those tokens' rows. -/
module

public import proofs.«01_k».proof.Proof.Spec
public import proofs.«01_k».proof.Proof.BlockRows
public import proofs.«01_k».proof.Proof.Blocks
public import Idealize.ShloMosaic.Lib.StableHlo.Run

@[expose] public section

set_option maxRecDepth 16384

noncomputable section

namespace Cert.Router

open Idealize.ShloMosaic Idealize.ShloMosaic.TcCoe Cert.KernelIdeal Cert.KernelIdeal.Gen

variable (m : (ℓ : Loc nD τ sig) → Buf (Elt Ideal) ℓ) (c : Dev nD) (t : Fin cfg0.N)

/-- The arguments a memory of the kernel's program holds. -/
def kArgs : Args where
  hidden := m ((c.tc : Thread nD τ).loc main_arg0)
  mass := m ((c.tc : Thread nD τ).loc main_arg1)
  weight := m ((c.tc : Thread nD τ).loc main_arg2)
  bias := m ((c.tc : Thread nD τ).loc main_arg3)

/-- The grid has eight points. -/
theorem point_lt : t.val < 8 := lt_of_lt_of_eq t.isLt N_0

/-- Token `j` of point `t`'s block. -/
def tok (j : Fin 1024) : Fin 8192 := ⟨1024 * t.val + j.val, by have := point_lt t; omega⟩

/-! ## The arrays the grid reads -/

/-- The hidden states as the grid reads them: their rows, one after the other. -/
theorem V_v0 : V m c main_v0 = shapeCast S8192x2048 (kArgs m c).hidden shapeCasts_S4x2048x2048_S8192x2048 := by
  show StableHlo.after hostOps0 (fun b => m (c, b)) (Proc.devRef .tc main_v0) = _
  unfold hostOps0
  after_results_simp <;> rfl

/-- The masses as the grid reads them: in one row. -/
theorem V_v1 : V m c main_v1 = shapeCast S1x8192 (kArgs m c).mass shapeCasts_S4x2048x1_S1x8192 := by
  show StableHlo.after hostOps0 (fun b => m (c, b)) (Proc.devRef .tc main_v1) = _
  unfold hostOps0
  after_results_simp <;> rfl

/-- The biases as the grid reads them: in one column. -/
theorem V_v2 : V m c main_v2 = shapeCast S16x1 (kArgs m c).bias shapeCasts_S16_S16x1 := by
  show StableHlo.after hostOps0 (fun b => m (c, b)) (Proc.devRef .tc main_v2) = _
  unfold hostOps0
  after_results_simp <;> rfl

/-! ## The blocks -/

/-- Where each input window's block lies at point `t`. -/
theorem in_index : ∀ t : Fin cfg0.N, (win0_0.index t (0 : Fin 2) = t.val ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The block of hidden states. -/
theorem hidden_blk (j : Fin 1024) (k : Fin 2048) :
    iblk m c 0 t (ix2 j k) = (kArgs m c).hidden (ix3 (batch (tok t j)) (place (tok t j)) k) := by
  have hi : ((cfg0.win 0).blk t).view.emb (ix2 j k) = ix2 (tok t j) k := by
    obtain ⟨⟨e0, e1⟩, -⟩ := in_index t
    funext a
    apply Fin.ext
    match a with
    | ⟨0, _⟩ => show win0_0.index t (0 : Fin 2) * 1024 + 1 * j.val = 1024 * t.val + j.val; rw [e0]; omega
    | ⟨1, _⟩ => show win0_0.index t (1 : Fin 2) * 2048 + 1 * k.val = k.val; rw [e1]; omega
  show V m c main_v0 (((cfg0.win 0).blk t).view.emb (ix2 j k)) = _
  rw [hi, V_v0]
  pointwise []
  rfl

/-- The block of masses. -/
theorem mass_blk (z : Fin 1) (j : Fin 1024) :
    iblk m c 1 t (ix2 z j) = (kArgs m c).mass (ix3 (batch (tok t j)) (place (tok t j)) 0) := by
  have hi : ((cfg0.win 1).blk t).view.emb (ix2 z j) = ix2 z (tok t j) := by
    obtain ⟨-, ⟨e0, e1⟩, -⟩ := in_index t
    funext a
    apply Fin.ext
    match a with
    | ⟨0, _⟩ => show win0_1.index t (0 : Fin 2) * 1 + 1 * z.val = z.val; rw [e0]; omega
    | ⟨1, _⟩ => show win0_1.index t (1 : Fin 2) * 1024 + 1 * j.val = 1024 * t.val + j.val; rw [e1]; omega
  show V m c main_v1 (((cfg0.win 1).blk t).view.emb (ix2 z j)) = _
  rw [hi, V_v1]
  pointwise []
  rfl

/-- The block of weights: all of them. -/
theorem weight_blk (e : Fin 16) (k : Fin 2048) : iblk m c 2 t (ix2 e k) = (kArgs m c).weight (ix2 e k) := by
  have hi : ((cfg0.win 2).blk t).view.emb (ix2 e k) = ix2 e k := by
    obtain ⟨-, -, ⟨e0, e1⟩, -⟩ := in_index t
    funext a
    apply Fin.ext
    match a with
    | ⟨0, _⟩ => show win0_2.index t (0 : Fin 2) * 16 + 1 * e.val = e.val; rw [e0]; omega
    | ⟨1, _⟩ => show win0_2.index t (1 : Fin 2) * 2048 + 1 * k.val = k.val; rw [e1]; omega
  show V m c main_arg2 (((cfg0.win 2).blk t).view.emb (ix2 e k)) = _
  rw [hi, V_main_arg2]
  rfl

/-- The block of mass biases: all of them. -/
theorem bias_blk (e : Fin 16) (z : Fin 1) : iblk m c 3 t (ix2 e z) = (kArgs m c).bias (ix1 e) := by
  have hi : ((cfg0.win 3).blk t).view.emb (ix2 e z) = ix2 e z := by
    obtain ⟨-, -, -, ⟨e0, e1⟩⟩ := in_index t
    funext a
    apply Fin.ext
    match a with
    | ⟨0, _⟩ => show win0_3.index t (0 : Fin 2) * 16 + 1 * e.val = e.val; rw [e0]; omega
    | ⟨1, _⟩ => show win0_3.index t (1 : Fin 2) * 1 + 1 * z.val = z.val; rw [e1]; omega
  show V m c main_v2 (((cfg0.win 3).blk t).view.emb (ix2 e z)) = _
  rw [hi, V_v2]
  pointwise []

/-- Point `t`'s rows of logits are its tokens'. -/
theorem blockRow_eq (j : Fin 1024) :
    blockRow (iblk m c 2 t) (iblk m c 0 t) (iblk m c 3 t) (iblk m c 1 t) j = tokenRow (kArgs m c) (tok t j) := by
  funext e
  unfold blockRow tokenRow
  rw [bias_blk, mass_blk]
  simp only [weight_blk, hidden_blk]

end Cert.Router

end

end
-- ==== Proof.Outputs.lean ====
/- What the kernel's grid points leave in its output buffers and its scratch, in terms of the program's arguments. -/
module

public import proofs.«01_k».proof.Proof.Inputs

@[expose] public section

set_option maxRecDepth 16384

noncomputable section

namespace Cert.Router

open Idealize.ShloMosaic Idealize.ShloMosaic.TcCoe Cert.KernelIdeal Cert.KernelIdeal.Gen

variable (m : (ℓ : Loc nD τ sig) → Buf (Elt Ideal) ℓ) (c : Dev nD) (t : Fin cfg0.N)

/-- A point is the first, a middle one or the last. -/
theorem point_cases : (t.val % 8 = 0 ∧ ¬1 ≤ t.val ∧ ¬t.val % 8 = 7) ∨ (¬t.val % 8 = 0 ∧ 1 ≤ t.val ∧ ¬t.val % 8 = 7)
    ∨ (¬t.val % 8 = 0 ∧ 1 ≤ t.val ∧ t.val % 8 = 7) := by
  have := point_lt t
  omega

/-- The logits a point leaves. -/
theorem out_logits (e : Fin 16) (j : Fin 1024) :
    (outsAt0 m c t.val t.isLt).1 (ix2 e j) = tokenRow (kArgs m c) (tok t j) e := by
  have h : (outsAt0 m c t.val t.isLt).1 = k0_pay7 (iblk m c 2 t) (iblk m c 0 t) (iblk m c 3 t) (iblk m c 1 t) := by
    rcases point_cases t with ⟨h0, h1, h2⟩ | ⟨h0, h1, h2⟩ | ⟨h0, h1, h2⟩
    · exact logits_A m c t h0 h1 h2
    · exact logits_B m c t h0 h1 h2
    · exact logits_C m c t h0 h1 h2
  rw [h, logits_apply, blockRow_eq]

/-- The selected experts a point leaves. -/
theorem out_experts (a : Fin 2) (j : Fin 1024) :
    (outsAt0 m c t.val t.isLt).2.1 (ix2 a j) = BitVec.ofNat 32 (pick (tokenProb (kArgs m c) (tok t j)) a).val := by
  have h : (outsAt0 m c t.val t.isLt).2.1 = experts (iblk m c 2 t) (iblk m c 0 t) (iblk m c 3 t) (iblk m c 1 t) := by
    rcases point_cases t with ⟨h0, h1, h2⟩ | ⟨h0, h1, h2⟩ | ⟨h0, h1, h2⟩
    · exact experts_A m c t h0 h1 h2
    · exact experts_B m c t h0 h1 h2
    · exact experts_C m c t h0 h1 h2
  rw [h, experts, experts_apply, blockRow_eq]
  rfl

/-- The selected probabilities a point leaves. -/
theorem out_weights (hA : (kArgs m c).Real) (a : Fin 2) (j : Fin 1024) :
    (outsAt0 m c t.val t.isLt).2.2.1 (ix2 a j)
      = tokenProb (kArgs m c) (tok t j) (pick (tokenProb (kArgs m c) (tok t j)) a) := by
  have h : (outsAt0 m c t.val t.isLt).2.2.1
      = k0_pay1 (k0_pay9 (iblk m c 2 t) (iblk m c 0 t) (iblk m c 3 t) (iblk m c 1 t))
        (k0_pay12 (iblk m c 2 t) (iblk m c 0 t) (iblk m c 3 t) (iblk m c 1 t)) := by
    rcases point_cases t with ⟨h0, h1, h2⟩ | ⟨h0, h1, h2⟩ | ⟨h0, h1, h2⟩
    · exact weights_A m c t h0 h1 h2
    · exact weights_B m c t h0 h1 h2
    · exact weights_C m c t h0 h1 h2
  rw [h, weights_apply _ _ _ _ (fun j e => by rw [blockRow_eq]; exact tokenProb_nonneg hA _ _), blockRow_eq]
  rfl

/-! ## The running sum -/

/-- Expert `e`'s probabilities summed over the tokens of block `k`. -/
def part (e : Fin 16) (k : ℕ) : EReal := if h : k < cfg0.N then ∑ j, tokenProb (kArgs m c) (tok ⟨k, h⟩ j) e else 0

/-- Point `t`'s part of an expert's sum is the sum over the tokens of its block. -/
theorem part_eq (e : Fin 16) : part m c e t.val = ∑ j, tokenProb (kArgs m c) (tok t j) e := dif_pos t.isLt

/-- After point `n` the scratch holds the sum over the blocks up to `n`. -/
theorem out_sum (e : Fin 16) (z : Fin 1) : ∀ (n : ℕ) (hn : n < cfg0.N),
    (outsAt0 m c n hn).2.2.2.2 (ix2 e z) = ∑ k ∈ Finset.range (n + 1), part m c e k := by
  intro n
  induction n with
  | zero =>
    intro hn
    have h := sum_A m c ⟨0, hn⟩ rfl (by simp) (by simp)
    rw [show (outsAt0 m c 0 hn).2.2.2.2 = _ from h, first_apply, Finset.sum_range_one]
    simp only [blockRow_eq]
    exact (part_eq m c ⟨0, hn⟩ e).symm
  | succ n ih =>
    intro hn
    have hlt := point_lt ⟨n + 1, hn⟩
    have h : (outsAt0 m c (n + 1) hn).2.2.2.2
        = k0_pay5 (k0_pay8 (iblk m c 2 ⟨n + 1, hn⟩) (iblk m c 0 ⟨n + 1, hn⟩) (iblk m c 3 ⟨n + 1, hn⟩) (iblk m c 1 ⟨n + 1, hn⟩))
          (outsAt0 m c n (Nat.lt_of_succ_lt hn)).2.2.2.2 := by
      rcases point_cases ⟨n + 1, hn⟩ with ⟨h0, h1, h2⟩ | ⟨h0, h1, h2⟩ | ⟨h0, h1, h2⟩
      · exact absurd (Nat.le_add_left 1 n) h1
      · exact sum_B m c ⟨n + 1, hn⟩ h0 h1 h2
      · exact sum_C m c ⟨n + 1, hn⟩ h0 h1 h2
    rw [h, next_sum_apply, ih (Nat.lt_of_succ_lt hn), Finset.sum_range_succ _ (n + 1)]
    congr 1
    simp only [blockRow_eq]
    exact (part_eq m c ⟨n + 1, hn⟩ e).symm

/-- The sum over the eight blocks is the sum over the tokens. -/
theorem sum_parts (e : Fin 16) : ∑ k ∈ Finset.range 8, part m c e k = ∑ n, tokenProb (kArgs m c) n e := by
  rw [Finset.sum_range]
  have h : ∀ k : Fin 8, part m c e k.val = ∑ j, tokenProb (kArgs m c) (tok ⟨k.val, lt_of_lt_of_eq k.isLt N_0.symm⟩ j) e :=
    fun k => part_eq m c ⟨k.val, lt_of_lt_of_eq k.isLt N_0.symm⟩ e
  simp only [h]
  rw [← Fintype.sum_prod_type' (f := fun (k : Fin 8) j => tokenProb (kArgs m c) (tok ⟨k.val, lt_of_lt_of_eq k.isLt N_0.symm⟩ j) e)]
  refine Fintype.sum_equiv (finProdFinEquiv (m := 8) (n := 1024)) _ _ fun x => ?_
  congr 1
  apply Fin.ext
  show 1024 * x.1.val + x.2.val = x.2.val + 1024 * x.1.val
  omega

/-- The loss the last point leaves. -/
theorem out_loss (h : t.val % 8 = 7) (y z : Fin 1) :
    (outsAt0 m c t.val t.isLt).2.2.2.1 (ix2 y z) = lossOf (kArgs m c) ix0 := by
  have hlt := point_lt t
  have h1 : 1 ≤ t.val := by omega
  have h0 : ¬t.val % 8 = 0 := by omega
  have hs := sum_C m c t h0 h1 h
  rw [loss_C m c t h0 h1 h, ← hs, loss_apply]
  simp only [out_sum]
  have h7 : t.val + 1 = 8 := by omega
  simp only [h7, sum_parts]
  rfl

end Cert.Router

end

end
-- ==== Proof.Results.lean ====
/- The kernel's four output arrays after the grid, and the program's four results, in terms of the program's arguments. -/
module

public import proofs.«01_k».proof.Proof.Outputs

@[expose] public section

set_option maxRecDepth 16384

noncomputable section

namespace Cert.Router

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg) (c : Dev nD) (t : Fin cfg0.N)

/-- The point whose block holds token `n`. -/
def pointOf (n : Fin 8192) : Fin cfg0.N := ⟨n.val / 1024, lt_of_lt_of_eq (by omega) N_0.symm⟩

/-- Where each output window's block lies at point `t`. -/
theorem out_index : ∀ t : Fin cfg0.N, (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val)
    ∧ (win0_7.index t (0 : Fin 2) = 0 ∧ win0_7.index t (1 : Fin 2) = 0) :=
  (by decide +kernel : ∀ t : Fin grid0.N, _)

/-! ## The arrays -/

/-- The array of the logits, an expert a row. -/
def logitsArr : Buf (Elt Ideal) ((c : Thread nD τ).loc main_v3_0) := fun i => tokenRow (kArgs m c) (i 1) (i 0)

/-- What a point writes back to it is the point's block of it. -/
theorem logits_flushed : (dats m 0 c).flushed 4 t = ((cfg0.win 4).blk t).view.read (Elt Ideal) (logitsArr m c) := by
  show (cfg0.win 4).cut (grid0.coords t) ((dats m 0 c).after 4 t) = _
  rw [after0_4]
  obtain ⟨e, -⟩ := out_index t
  funext y
  have hy0 : (y 0).val < 16 := (y 0).isLt
  have hy1 : (y 1).val < 1024 := (y 1).isLt
  have hi : ((cfg0.win 4).blk t).view.emb y = ix2 ⟨(y 0).val, hy0⟩ (tok t ⟨(y 1).val, hy1⟩) := by
    funext a
    apply Fin.ext
    match a with
    | ⟨0, _⟩ => show win0_4.index t (0 : Fin 2) * 16 + 1 * (y 0).val = (y 0).val; rw [e.1]; omega
    | ⟨1, _⟩ => show win0_4.index t (1 : Fin 2) * 1024 + 1 * (y 1).val = 1024 * t.val + (y 1).val; rw [e.2]; omega
  have hl : (cfg0.win 4).xinj (grid0.coords t) y = ix2 ⟨(y 0).val, hy0⟩ ⟨(y 1).val, hy1⟩ := by
    funext a
    apply Fin.ext
    match a with
    | ⟨0, _⟩ => rfl
    | ⟨1, _⟩ => rfl
  show (outsAt0 m c t.val t.isLt).1 ((cfg0.win 4).xinj (grid0.coords t) y) = logitsArr m c (((cfg0.win 4).blk t).view.emb y)
  rw [hi, hl]
  exact out_logits m c t _ _

/-- The points' blocks cover it. -/
theorem logits_cover (i : S16x8192.Idx) : ∃ t : Fin cfg0.N, (cfg0.win 4).flush t = true ∧ i ∈ ((cfg0.win 4).blk t).view.set := by
  have hi0 : (i 0).val < 16 := (i 0).isLt
  have hi1 : (i 1).val < 8192 := (i 1).isLt
  refine ⟨pointOf ⟨(i 1).val, hi1⟩, flush0_4 _, ?_⟩
  obtain ⟨e, -⟩ := out_index (pointOf ⟨(i 1).val, hi1⟩)
  have hp : (pointOf ⟨(i 1).val, hi1⟩).val = (i 1).val / 1024 := rfl
  show i ∈ ((View.whole main_v3_0).slice (win0_4.rect (pointOf ⟨(i 1).val, hi1⟩))).set
  rw [View.set_slice_whole, Rect.mem_set_unit]
  intro a
  match a with
  | ⟨0, _⟩ =>
    show win0_4.index _ (0 : Fin 2) * 16 ≤ (i 0).val ∧ (i 0).val < win0_4.index _ (0 : Fin 2) * 16 + 16
    rw [e.1]; omega
  | ⟨1, _⟩ =>
    show win0_4.index _ (1 : Fin 2) * 1024 ≤ (i 1).val ∧ (i 1).val < win0_4.index _ (1 : Fin 2) * 1024 + 1024
    rw [e.2, hp]; omega

/-- The grid leaves it in its array. -/
theorem logits_arr : (dats m 0 c).arrAt 4 cfg0.N = logitsArr m c :=
  (dats m 0 c).arrAt_eq_of_cover 4 _ (fun t _ => logits_flushed m c t) logits_cover

/-- The array of the selected experts. -/
def expertsArr : Buf (Elt Ideal) ((c : Thread nD τ).loc main_v3_1) := fun i => BitVec.ofNat 32 (pick (tokenProb (kArgs m c) (i 1)) (i 0)).val

/-- What a point writes back to it is the point's block of it. -/
theorem experts_flushed : (dats m 0 c).flushed 5 t = ((cfg0.win 5).blk t).view.read (Elt Ideal) (expertsArr m c) := by
  show (cfg0.win 5).cut (grid0.coords t) ((dats m 0 c).after 5 t) = _
  rw [after0_5]
  obtain ⟨-, e, -⟩ := out_index t
  funext y
  have hy0 : (y 0).val < 2 := (y 0).isLt
  have hy1 : (y 1).val < 1024 := (y 1).isLt
  have hi : ((cfg0.win 5).blk t).view.emb y = ix2 ⟨(y 0).val, hy0⟩ (tok t ⟨(y 1).val, hy1⟩) := by
    funext a
    apply Fin.ext
    match a with
    | ⟨0, _⟩ => show win0_5.index t (0 : Fin 2) * 2 + 1 * (y 0).val = (y 0).val; rw [e.1]; omega
    | ⟨1, _⟩ => show win0_5.index t (1 : Fin 2) * 1024 + 1 * (y 1).val = 1024 * t.val + (y 1).val; rw [e.2]; omega
  have hl : (cfg0.win 5).xinj (grid0.coords t) y = ix2 ⟨(y 0).val, hy0⟩ ⟨(y 1).val, hy1⟩ := by
    funext a
    apply Fin.ext
    match a with
    | ⟨0, _⟩ => rfl
    | ⟨1, _⟩ => rfl
  show (outsAt0 m c t.val t.isLt).2.1 ((cfg0.win 5).xinj (grid0.coords t) y) = expertsArr m c (((cfg0.win 5).blk t).view.emb y)
  rw [hi, hl]
  exact out_experts m c t _ _

/-- The points' blocks cover it. -/
theorem experts_cover (i : S2x8192.Idx) : ∃ t : Fin cfg0.N, (cfg0.win 5).flush t = true ∧ i ∈ ((cfg0.win 5).blk t).view.set := by
  have hi0 : (i 0).val < 2 := (i 0).isLt
  have hi1 : (i 1).val < 8192 := (i 1).isLt
  refine ⟨pointOf ⟨(i 1).val, hi1⟩, flush0_5 _, ?_⟩
  obtain ⟨-, e, -⟩ := out_index (pointOf ⟨(i 1).val, hi1⟩)
  have hp : (pointOf ⟨(i 1).val, hi1⟩).val = (i 1).val / 1024 := rfl
  show i ∈ ((View.whole main_v3_1).slice (win0_5.rect (pointOf ⟨(i 1).val, hi1⟩))).set
  rw [View.set_slice_whole, Rect.mem_set_unit]
  intro a
  match a with
  | ⟨0, _⟩ =>
    show win0_5.index _ (0 : Fin 2) * 2 ≤ (i 0).val ∧ (i 0).val < win0_5.index _ (0 : Fin 2) * 2 + 2
    rw [e.1]; omega
  | ⟨1, _⟩ =>
    show win0_5.index _ (1 : Fin 2) * 1024 ≤ (i 1).val ∧ (i 1).val < win0_5.index _ (1 : Fin 2) * 1024 + 1024
    rw [e.2, hp]; omega

/-- The grid leaves it in its array. -/
theorem experts_arr : (dats m 0 c).arrAt 5 cfg0.N = expertsArr m c :=
  (dats m 0 c).arrAt_eq_of_cover 5 _ (fun t _ => experts_flushed m c t) experts_cover

/-- The array of the selected probabilities. -/
def weightsArr : Buf (Elt Ideal) ((c : Thread nD τ).loc main_v3_2) := fun i => tokenProb (kArgs m c) (i 1) (pick (tokenProb (kArgs m c) (i 1)) (i 0))

/-- What a point writes back to it is the point's block of it. -/
theorem weights_flushed (hA : (kArgs m c).Real) : (dats m 0 c).flushed 6 t = ((cfg0.win 6).blk t).view.read (Elt Ideal) (weightsArr m c) := by
  show (cfg0.win 6).cut (grid0.coords t) ((dats m 0 c).after 6 t) = _
  rw [after0_6]
  obtain ⟨-, -, e, -⟩ := out_index t
  funext y
  have hy0 : (y 0).val < 2 := (y 0).isLt
  have hy1 : (y 1).val < 1024 := (y 1).isLt
  have hi : ((cfg0.win 6).blk t).view.emb y = ix2 ⟨(y 0).val, hy0⟩ (tok t ⟨(y 1).val, hy1⟩) := by
    funext a
    apply Fin.ext
    match a with
    | ⟨0, _⟩ => show win0_6.index t (0 : Fin 2) * 2 + 1 * (y 0).val = (y 0).val; rw [e.1]; omega
    | ⟨1, _⟩ => show win0_6.index t (1 : Fin 2) * 1024 + 1 * (y 1).val = 1024 * t.val + (y 1).val; rw [e.2]; omega
  have hl : (cfg0.win 6).xinj (grid0.coords t) y = ix2 ⟨(y 0).val, hy0⟩ ⟨(y 1).val, hy1⟩ := by
    funext a
    apply Fin.ext
    match a with
    | ⟨0, _⟩ => rfl
    | ⟨1, _⟩ => rfl
  show (outsAt0 m c t.val t.isLt).2.2.1 ((cfg0.win 6).xinj (grid0.coords t) y) = weightsArr m c (((cfg0.win 6).blk t).view.emb y)
  rw [hi, hl]
  exact out_weights m c t hA _ _

/-- The points' blocks cover it. -/
theorem weights_cover (i : S2x8192.Idx) : ∃ t : Fin cfg0.N, (cfg0.win 6).flush t = true ∧ i ∈ ((cfg0.win 6).blk t).view.set := by
  have hi0 : (i 0).val < 2 := (i 0).isLt
  have hi1 : (i 1).val < 8192 := (i 1).isLt
  refine ⟨pointOf ⟨(i 1).val, hi1⟩, flush0_6 _, ?_⟩
  obtain ⟨-, -, e, -⟩ := out_index (pointOf ⟨(i 1).val, hi1⟩)
  have hp : (pointOf ⟨(i 1).val, hi1⟩).val = (i 1).val / 1024 := rfl
  show i ∈ ((View.whole main_v3_2).slice (win0_6.rect (pointOf ⟨(i 1).val, hi1⟩))).set
  rw [View.set_slice_whole, Rect.mem_set_unit]
  intro a
  match a with
  | ⟨0, _⟩ =>
    show win0_6.index _ (0 : Fin 2) * 2 ≤ (i 0).val ∧ (i 0).val < win0_6.index _ (0 : Fin 2) * 2 + 2
    rw [e.1]; omega
  | ⟨1, _⟩ =>
    show win0_6.index _ (1 : Fin 2) * 1024 ≤ (i 1).val ∧ (i 1).val < win0_6.index _ (1 : Fin 2) * 1024 + 1024
    rw [e.2, hp]; omega

/-- The grid leaves it in its array. -/
theorem weights_arr (hA : (kArgs m c).Real) : (dats m 0 c).arrAt 6 cfg0.N = weightsArr m c :=
  (dats m 0 c).arrAt_eq_of_cover 6 _ (fun t _ => weights_flushed m c t hA) weights_cover

/-- The array of the loss: its one cell. -/
def lossArr : Buf (Elt Ideal) ((c : Thread nD τ).loc main_v3_3) := fun _ => lossOf (kArgs m c) ix0

/-- The last point writes the loss back. -/
theorem loss_flushed (hf : (cfg0.win 7).flush t = true) :
    (dats m 0 c).flushed 7 t = ((cfg0.win 7).blk t).view.read (Elt Ideal) (lossArr m c) := by
  show (cfg0.win 7).cut (grid0.coords t) ((dats m 0 c).after 7 t) = _
  rw [after0_7]
  funext y
  have hy0 : (y 0).val < 1 := (y 0).isLt
  have hy1 : (y 1).val < 1 := (y 1).isLt
  have hl : (cfg0.win 7).xinj (grid0.coords t) y = ix2 ⟨(y 0).val, hy0⟩ ⟨(y 1).val, hy1⟩ := by
    funext a
    apply Fin.ext
    match a with
    | ⟨0, _⟩ => rfl
    | ⟨1, _⟩ => rfl
  show (outsAt0 m c t.val t.isLt).2.2.2.1 ((cfg0.win 7).xinj (grid0.coords t) y) = lossArr m c (((cfg0.win 7).blk t).view.emb y)
  rw [hl]
  exact out_loss m c t ((flush0_7 t).mp hf) _ _

/-- Its block is the array. -/
theorem loss_cover (i : S1x1.Idx) : ∃ t : Fin cfg0.N, (cfg0.win 7).flush t = true ∧ i ∈ ((cfg0.win 7).blk t).view.set := by
  have hi0 : (i 0).val < 1 := (i 0).isLt
  have hi1 : (i 1).val < 1 := (i 1).isLt
  refine ⟨pointOf 8191, (flush0_7 _).mpr rfl, ?_⟩
  obtain ⟨-, -, -, e⟩ := out_index (pointOf 8191)
  show i ∈ ((View.whole main_v3_3).slice (win0_7.rect (pointOf 8191))).set
  rw [View.set_slice_whole, Rect.mem_set_unit]
  intro a
  match a with
  | ⟨0, _⟩ =>
    show win0_7.index _ (0 : Fin 2) * 1 ≤ (i 0).val ∧ (i 0).val < win0_7.index _ (0 : Fin 2) * 1 + 1
    rw [e.1]; omega
  | ⟨1, _⟩ =>
    show win0_7.index _ (1 : Fin 2) * 1 ≤ (i 1).val ∧ (i 1).val < win0_7.index _ (1 : Fin 2) * 1 + 1
    rw [e.2]; omega

/-- The grid leaves it in its array. -/
theorem loss_arr : (dats m 0 c).arrAt 7 cfg0.N = lossArr m c :=
  (dats m 0 c).arrAt_eq_of_cover 7 _ (fun t hf => loss_flushed m c t hf) loss_cover

/-! ## The results -/

/-- What the operations after the grid start from: the arrays the grid leaves, everything else as it was before. -/
abbrev left : Valuation τ sig (Elt Ideal) :=
  Pipeline.withArrays (cfgs 0).spec c (V0 m c) fun w => (dats m 0 c).arrAt w (cfgs 0).N

/-- They read, of each window, the array the grid leaves. -/
theorem left_arr (w : Fin 8) : left m c (Proc.devRef .tc (Pipeline.arrRef spec0 w)) = (dats m 0 c).arrAt w cfg0.N :=
  Pipeline.withArrays_arr spec0 winFacts0.arr_inj c (V0 m c) _ w

/-- The result `main_v4`. -/
theorem tail_logits : Pipeline.afterTail₀ cfgs (dats m) 0 (V0 m) [hostOps1] c main_v4 = logitsOf (kArgs m c) := by
  have h : Pipeline.afterTail₀ cfgs (dats m) 0 (V0 m) [hostOps1] c main_v4
      = transpose S8192x16 [1, 0] (left m c (Proc.devRef .tc main_v3_0)) transposes_S16x8192_S8192x16_1_0 := by
    show StableHlo.after hostOps1 (left m c) (Proc.devRef .tc main_v4) = _
    unfold hostOps1
    after_results_simp
  rw [h, show left m c (Proc.devRef .tc main_v3_0) = _ from left_arr m c 4, logits_arr m c]
  funext j
  idx_vars j
  pointwise []
  rfl

/-- The result `main_v5`. -/
theorem tail_experts : Pipeline.afterTail₀ cfgs (dats m) 0 (V0 m) [hostOps1] c main_v5 = expertsOf (kArgs m c) := by
  have h : Pipeline.afterTail₀ cfgs (dats m) 0 (V0 m) [hostOps1] c main_v5
      = transpose S8192x2 [1, 0] (left m c (Proc.devRef .tc main_v3_1)) transposes_S2x8192_S8192x2_1_0 := by
    show StableHlo.after hostOps1 (left m c) (Proc.devRef .tc main_v5) = _
    unfold hostOps1
    after_results_simp
  rw [h, show left m c (Proc.devRef .tc main_v3_1) = _ from left_arr m c 5, experts_arr m c]
  funext j
  idx_vars j
  pointwise []
  rfl

/-- The result `main_v7`. -/
theorem tail_weights (hA : (kArgs m c).Real) : Pipeline.afterTail₀ cfgs (dats m) 0 (V0 m) [hostOps1] c main_v7 = weightsOf (kArgs m c) := by
  have h : Pipeline.afterTail₀ cfgs (dats m) 0 (V0 m) [hostOps1] c main_v7
      = transpose S8192x2 [1, 0] (left m c (Proc.devRef .tc main_v3_2)) transposes_S2x8192_S8192x2_1_0 := by
    show StableHlo.after hostOps1 (left m c) (Proc.devRef .tc main_v7) = _
    unfold hostOps1
    after_results_simp
  rw [h, show left m c (Proc.devRef .tc main_v3_2) = _ from left_arr m c 6, weights_arr m c hA]
  funext j
  idx_vars j
  pointwise []
  rfl

/-- The result `main_v6`. -/
theorem tail_loss : Pipeline.afterTail₀ cfgs (dats m) 0 (V0 m) [hostOps1] c main_v6 = lossOf (kArgs m c) := by
  have h : Pipeline.afterTail₀ cfgs (dats m) 0 (V0 m) [hostOps1] c main_v6
      = shapeCast S_ (left m c (Proc.devRef .tc main_v3_3)) shapeCasts_S1x1_S_ := by
    show StableHlo.after hostOps1 (left m c) (Proc.devRef .tc main_v6) = _
    unfold hostOps1
    after_results_simp <;> rfl
  rw [h, show left m c (Proc.devRef .tc main_v3_3) = _ from left_arr m c 7, loss_arr m c]
  rfl

/-- From real arguments the kernel's program ends with its four results at the router's and its arguments unchanged. -/
theorem kernel_run (h : ∀ c, (kArgs m c).Real) :
    θ_run defs (onTc (τ := τ) (main (F := Ideal))) ⟨m, fun _ => 0, ρ⟩ fun r => ∀ c : Dev nD,
      r.2.mem ((c.tc : Thread nD τ).loc main_v4) = logitsOf (kArgs m c)
      ∧ r.2.mem ((c.tc : Thread nD τ).loc main_v5) = expertsOf (kArgs m c)
      ∧ r.2.mem ((c.tc : Thread nD τ).loc main_v6) = lossOf (kArgs m c)
      ∧ r.2.mem ((c.tc : Thread nD τ).loc main_v7) = weightsOf (kArgs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r hr c =>
    ⟨((hr c).2 main_v4 (Pipeline.mem_restRefs_of main_v4 (by decide) (by decide))).trans (tail_logits m c),
      ((hr c).2 main_v5 (Pipeline.mem_restRefs_of main_v5 (by decide) (by decide))).trans (tail_experts m c),
      ((hr c).2 main_v6 (Pipeline.mem_restRefs_of main_v6 (by decide) (by decide))).trans (tail_loss m c),
      ((hr c).2 main_v7 (Pipeline.mem_restRefs_of main_v7 (by decide) (by decide))).trans (tail_weights m c (h c)),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).1 2).trans (((dats m 0 c).arrAt_in 2 rfl _).trans ((A_eq m c 2).trans (V_main_arg2 m c))),
      ((hr c).2 main_arg3 (Pipeline.mem_restRefs_of main_arg3 (by decide) (by decide))).trans (W_main_arg3 m (dats m) c)⟩)
    (run_main m ρ)

end Cert.Router

end

end
-- ==== Proof.Finite.lean ====
/- What the precondition says: the arguments are real numbers. -/
module

public import proofs.«01_k».proof.Proof.Inputs
public import proofs.«01_k».proof.Defs
public import proofs.«01_k».proof.Proof.Gen.Pre_all_finite
public import Idealize.ShloMosaic.Lib.ReduceAll

@[expose] public section

set_option maxRecDepth 16384

noncomputable section

namespace Cert.Router

open Idealize.ShloMosaic Cert.Pre_all_finite Cert.Pre_all_finite.Facts

/-- An extended real whose absolute value compares below infinity is a real number. -/
theorem real_of_lt_inf (x : Ideal .f32)
    (h : FloatOps.cmpf (F := Ideal) .olt (FloatOps.hostAbsf x) (FloatOps.ofBits .f32 0x7F800000#32) = 1#1) :
    ∃ r : ℝ, x = (r : EReal) := by
  have e : FloatOps.ofBits (F := Ideal) .f32 0x7F800000#32 = (⊤ : EReal) := by simp [Ideal.ofBits, Ideal.ieee]
  rw [e] at h
  induction x using EReal.rec with
  | bot => exact absurd h (by show Ideal.cmp .olt (max (⊥ : EReal) (-⊥)) ⊤ ≠ 1#1; simp [Ideal.cmp])
  | coe r => exact ⟨r, rfl⟩
  | top => exact absurd h (by show Ideal.cmp .olt (max (⊤ : EReal) (-⊤)) ⊤ ≠ 1#1; simp [Ideal.cmp])

/-- So is every element of an array all of whose elements do, as a reduction by `and` tells. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32)))
      (constantI S_ 1 1#1) hr hu j = 1#1) (i : s.Idx) : ∃ r : ℝ, x i = (r : EReal) :=
  haveI : Subsingleton S_.Idx := ⟨fun a b => funext fun k => k.elim0⟩
  real_of_lt_inf (x i) (Host.reduce_andi_all _ _ hr hu j h i)

/-- The precondition makes the kernel's arguments real. -/
theorem args_real (m : (ℓ : Loc Cert.KernelIdeal.nD Cert.KernelIdeal.τ Cert.KernelIdeal.sig) → Buf (Elt Ideal) ℓ)
    (h : Cert.Pre_KernelIdeal_all_finite (hPre_all_finite := Cert.Pre_all_finite.Gen.facts) m) (c : Dev Cert.KernelIdeal.nD) : (kArgs m c).Real := by
  have e := congrFun (h c) ix0
  obtain ⟨e, e3⟩ := IntOp.andi_eq_one.mp e
  obtain ⟨e, e2⟩ := IntOp.andi_eq_one.mp e
  obtain ⟨e0, e1⟩ := IntOp.andi_eq_one.mp e
  exact ⟨real_of_all _ _ _ _ _ e0, real_of_all _ _ _ _ _ e1, real_of_all _ _ _ _ _ e2, real_of_all _ _ _ _ _ e3⟩

end Cert.Router

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import proofs.«01_k».proof.Proof.Results
public import proofs.«01_k».proof.Proof.Finite
public import Idealize.ShloMosaic.Adequacy
public import Idealize.ShloMosaic.Init

@[expose] public section

noncomputable section

namespace Cert.Proof

open Idealize.ShloMosaic Idealize.SL.Sem

/-- The reference runs to the end, leaves its arguments as they were, and declares no semaphore. -/
theorem frame_ReferenceIdeal : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- From memories that agree on the arguments, and from real arguments, the kernel and the reference both end with
    the router's logits, selected experts, loss and selected probabilities, and with their arguments unchanged. -/
theorem algebraic : Cert.algebraic_KernelIdeal_ReferenceIdeal_pre_all_finite := fun m g m' g' hpre hargs => by
  have hR : ∀ c, (Cert.Router.kArgs m c).Real := Cert.Router.args_real m hpre
  have e : ∀ c, Cert.Router.refArgs m' c = Cert.Router.kArgs m c := fun c => by
    obtain ⟨h0, h1, h2, h3⟩ := hargs c
    show Cert.Router.Args.mk _ _ _ _ = Cert.Router.Args.mk _ _ _ _
    rw [h0, h1, h2, h3]
  refine ⟨fun c => Cert.Router.logitsOf (Cert.Router.kArgs m c), fun c => Cert.Router.expertsOf (Cert.Router.kArgs m c),
    fun c => Cert.Router.lossOf (Cert.Router.kArgs m c), fun c => Cert.Router.weightsOf (Cert.Router.kArgs m c),
    Cert.Router.kernel_run m g hR, ?_⟩
  refine (θ_run Cert.ReferenceIdeal.defs _ _).mono (fun r h c => ?_)
    (Cert.Router.ref_run m' g' fun c => (e c).symm ▸ hR c)
  have hc := h c
  rw [e c] at hc
  exact hc

theorem claim : Cert.Claim :=
  ⟨Cert.Kernel.Gen.facts, Cert.KernelIdeal.Gen.facts, Cert.ReferenceIdeal.Gen.facts, Cert.Pre_all_finite.Gen.facts,
    fun m ρ _ => Cert.Kernel.Gen.frame m ρ,
    fun m ρ _ => Cert.KernelIdeal.Gen.frame m ρ,
    fun m ρ _ => Cert.KernelIdeal.Gen.frame m ρ,
    frame_ReferenceIdeal,
    fun m ρ _ => frame_ReferenceIdeal m ρ trivial,
    trivial,
    algebraic⟩

end Cert.Proof

end
